-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fresh_parameters [hPre_fresh_parameters : Cert.Pre_fresh_parameters.Facts] (m : (ℓ : Loc Cert.KernelIdeal.nD Cert.KernelIdeal.τ Cert.KernelIdeal.sig) → Buf (Elt Ideal) ℓ) : Prop :=
  ∀ c : Dev Cert.KernelIdeal.nD,
    (Cert.Pre_fresh_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fresh_parameters [hPre_fresh_parameters : Cert.Pre_fresh_parameters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_fresh_parameters [hKernelIdeal : Cert.KernelIdeal.Facts] [hPre_fresh_parameters : Cert.Pre_fresh_parameters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh_parameters m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_fresh_parameters [hReferenceIdeal : Cert.ReferenceIdeal.Facts] [hPre_fresh_parameters : Cert.Pre_fresh_parameters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh_parameters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_fresh_parameters [hKernelIdeal : Cert.KernelIdeal.Facts] [hReferenceIdeal : Cert.ReferenceIdeal.Facts] [hPre_fresh_parameters : Cert.Pre_fresh_parameters.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh_parameters m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_fresh_parameters : Cert.Pre_fresh_parameters.Facts),
    quiescent_Kernel (hKernel := hKernel)
    ∧ quiescent_KernelIdeal (hKernelIdeal := hKernelIdeal)
    ∧ quiescent_KernelIdeal_pre_fresh_parameters (hKernelIdeal := hKernelIdeal) (hPre_fresh_parameters := hPre_fresh_parameters)
    ∧ quiescent_ReferenceIdeal (hReferenceIdeal := hReferenceIdeal)
    ∧ quiescent_ReferenceIdeal_pre_fresh_parameters (hReferenceIdeal := hReferenceIdeal) (hPre_fresh_parameters := hPre_fresh_parameters)
    ∧ preserves_Kernel_KernelIdeal
    ∧ algebraic_KernelIdeal_ReferenceIdeal_pre_fresh_parameters (hKernelIdeal := hKernelIdeal) (hReferenceIdeal := hReferenceIdeal) (hPre_fresh_parameters := hPre_fresh_parameters)
-- ==== Pre_fresh_parameters.lean ====
abbrev S32x2048x256 : Shape := ⟨3, ![32, 2048, 256]⟩
abbrev S32x2048 : Shape := ⟨2, ![32, 2048]⟩
abbrev S4x1024x256 : Shape := ⟨3, ![4, 1024, 256]⟩
abbrev S4x1024 : Shape := ⟨2, ![4, 1024]⟩
abbrev S4x256x1024 : Shape := ⟨3, ![4, 256, 1024]⟩
abbrev S4x256 : Shape := ⟨2, ![4, 256]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S32x2048x256 .f32) (main_arg1 : IVec S32x2048 32) (main_arg2 : FVec F S4x1024x256 .f32) (main_arg3 : FVec F S4x1024 .f32) (main_arg4 : FVec F S4x256x1024 .f32) (main_arg5 : FVec F S4x256 .f32) (main_arg6 : FVec F S4x256 .f32) (main_arg7 : FVec F S4x256 .f32) : IVec S_ 1 :=
  let main_cst : FVec F S_ .f32 := constant S_ .f32 0x00000000#32
  let main_v0 : FVec F S4x1024 .f32 := broadcastInDim S4x1024 ![] bcast_S_S4x1024 main_cst
  let main_v1 : IVec S4x1024 1 := cmpf .oeq main_arg3 main_v0
  let main_c : IVec S_ 1 := constantI S_ 1 1#1
  let main_v2 : IVec S_ 1 := (fun x v => Host.reduce IntOp.andi x v reducesTo_S4x1024_S_d0_1 h_S_) main_v1 main_c
  let main_cst_0 : FVec F S_ .f32 := constant S_ .f32 0x00000000#32
  let main_v3 : FVec F S4x256 .f32 := broadcastInDim S4x256 ![] bcast_S_S4x256 main_cst_0
  let main_v4 : IVec S4x256 1 := cmpf .oeq main_arg5 main_v3
  let main_c_1 : IVec S_ 1 := constantI S_ 1 1#1
  let main_v5 : IVec S_ 1 := (fun x v => Host.reduce IntOp.andi x v reducesTo_S4x256_S_d0_1 h_S_) main_v4 main_c_1
  let main_v6 : IVec S_ 1 := andi main_v2 main_v5
  let main_cst_2 : FVec F S_ .f32 := constant S_ .f32 0x3F800000#32
  let main_v7 : FVec F S4x256 .f32 := broadcastInDim S4x256 ![] bcast_S_S4x256 main_cst_2
  let main_v8 : IVec S4x256 1 := cmpf .oeq main_arg6 main_v7
  let main_c_3 : IVec S_ 1 := constantI S_ 1 1#1
  let main_v9 : IVec S_ 1 := (fun x v => Host.reduce IntOp.andi x v reducesTo_S4x256_S_d0_1 h_S_) main_v8 main_c_3
  let main_v10 : IVec S_ 1 := andi main_v6 main_v9
  let main_cst_4 : FVec F S_ .f32 := constant S_ .f32 0x00000000#32
  let main_v11 : FVec F S4x256 .f32 := broadcastInDim S4x256 ![] bcast_S_S4x256 main_cst_4
  let main_v12 : IVec S4x256 1 := cmpf .oeq main_arg7 main_v11
  let main_c_5 : IVec S_ 1 := constantI S_ 1 1#1
  let main_v13 : IVec S_ 1 := (fun x v => Host.reduce IntOp.andi x v reducesTo_S4x256_S_d0_1 h_S_) main_v12 main_c_5
  let main_v14 : IVec S_ 1 := andi main_v10 main_v13
  main_v14
-- ==== Kernel.lean ====
abbrev S32x2048x256 : Shape := ⟨3, ![32, 2048, 256]⟩
abbrev S32x2048 : Shape := ⟨2, ![32, 2048]⟩
abbrev S4x1024x256 : Shape := ⟨3, ![4, 1024, 256]⟩
abbrev S4x1024 : Shape := ⟨2, ![4, 1024]⟩
abbrev S4x256x1024 : Shape := ⟨3, ![4, 256, 1024]⟩
abbrev S4x256 : Shape := ⟨2, ![4, 256]⟩
abbrev S65536x256 : Shape := ⟨2, ![65536, 256]⟩
abbrev S65536x1 : Shape := ⟨2, ![65536, 1]⟩
abbrev S65536x8 : Shape := ⟨2, ![65536, 8]⟩
abbrev S4096x256 : Shape := ⟨2, ![4096, 256]⟩
abbrev S4096x8 : Shape := ⟨2, ![4096, 8]⟩
abbrev S2048x256 : Shape := ⟨2, ![2048, 256]⟩
abbrev S2048x1 : Shape := ⟨2, ![2048, 1]⟩
abbrev S1x256x1024 : Shape := ⟨3, ![1, 256, 1024]⟩
abbrev S256x1024 : Shape := ⟨2, ![256, 1024]⟩
abbrev S2048x1024 : Shape := ⟨2, ![2048, 1024]⟩
abbrev S1x1024x256 : Shape := ⟨3, ![1, 1024, 256]⟩
abbrev S1024x256 : Shape := ⟨2, ![1024, 256]⟩
abbrev S2048 : Shape := ⟨1, ![2048]⟩

abbrev nBuf : Space → Nat
  | .hbm => 17
  | .vmem => 8
  | .smem => 0
  | _ => 0

abbrev bufTy : (tb : Table) → Fin (tcTables nBuf tb) → BufTy
  | .hbm, ⟨0, _⟩ => ⟨S32x2048x256, .f32⟩
  | .hbm, ⟨1, _⟩ => ⟨S32x2048, .i32⟩
  | .hbm, ⟨2, _⟩ => ⟨S4x1024x256, .f32⟩
  | .hbm, ⟨3, _⟩ => ⟨S4x1024, .f32⟩
  | .hbm, ⟨4, _⟩ => ⟨S4x256x1024, .f32⟩
  | .hbm, ⟨5, _⟩ => ⟨S4x256, .f32⟩
  | .hbm, ⟨6, _⟩ => ⟨S4x256, .f32⟩
  | .hbm, ⟨7, _⟩ => ⟨S4x256, .f32⟩
  | .hbm, ⟨8, _⟩ => ⟨S65536x256, .f32⟩
  | .hbm, ⟨9, _⟩ => ⟨S65536x1, .i32⟩
  | .hbm, ⟨10, _⟩ => ⟨S65536x8, .i32⟩
  | .hbm, ⟨11, _⟩ => ⟨S4x256x1024, .f32⟩
  | .hbm, ⟨12, _⟩ => ⟨S4x256x1024, .bf16⟩
  | .hbm, ⟨13, _⟩ => ⟨S4x1024x256, .f32⟩
  | .hbm, ⟨14, _⟩ => ⟨S4x1024x256, .bf16⟩
  | .hbm, ⟨15, _⟩ => ⟨S65536x256, .f32⟩
  | .hbm, ⟨16, _⟩ => ⟨S32x2048x256, .f32⟩
  | .local _ .vmem, ⟨0, _⟩ => ⟨S4096x256, .f32⟩
  | .local _ .vmem, ⟨1, _⟩ => ⟨S4096x256, .f32⟩
  | .local _ .vmem, ⟨2, _⟩ => ⟨S4096x8, .i32⟩
  | .local _ .vmem, ⟨3, _⟩ => ⟨S4096x8, .i32⟩
  | .local _ .vmem, ⟨4, _⟩ => ⟨S4x256x1024, .bf16⟩
  | .local _ .vmem, ⟨5, _⟩ => ⟨S4x1024x256, .bf16⟩
  | .local _ .vmem, ⟨6, _⟩ => ⟨S4096x256, .f32⟩
  | .local _ .vmem, ⟨7, _⟩ => ⟨S4096x256, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x2048x256 : Shape := ⟨3, ![32, 2048, 256]⟩
abbrev S32x2048 : Shape := ⟨2, ![32, 2048]⟩
abbrev S4x1024x256 : Shape := ⟨3, ![4, 1024, 256]⟩
abbrev S4x1024 : Shape := ⟨2, ![4, 1024]⟩
abbrev S4x256x1024 : Shape := ⟨3, ![4, 256, 1024]⟩
abbrev S4x256 : Shape := ⟨2, ![4, 256]⟩
abbrev S4x1024x32x2048 : Shape := ⟨4, ![4, 1024, 32, 2048]⟩
abbrev S4x32x2048x1024 : Shape := ⟨4, ![4, 32, 2048, 1024]⟩
abbrev S4x1x1x1024 : Shape := ⟨4, ![4, 1, 1, 1024]⟩
abbrev S_ : Shape := ⟨0, ![]⟩
abbrev S4x32x2048x256 : Shape := ⟨4, ![4, 32, 2048, 256]⟩
abbrev S4x1x1x256 : Shape := ⟨4, ![4, 1, 1, 256]⟩
abbrev S4x32x2048 : Shape := ⟨3, ![4, 32, 2048]⟩
abbrev S4x32x2048x1 : Shape := ⟨4, ![4, 32, 2048, 1]⟩
abbrev S1x32x2048x256 : Shape := ⟨4, ![1, 32, 2048, 256]⟩
abbrev S5x32x2048x256 : Shape := ⟨4, ![5, 32, 2048, 256]⟩
abbrev S32x2048x1 : Shape := ⟨3, ![32, 2048, 1]⟩
abbrev S1x1x5 : Shape := ⟨3, ![1, 1, 5]⟩
abbrev S32x2048x5 : Shape := ⟨3, ![32, 2048, 5]⟩

abbrev nBuf : Space → Nat
  | .hbm => 72
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x2048, .i32⟩
  | .hbm, ⟨2, _⟩ => ⟨S4x1024x256, .f32⟩
  | .hbm, ⟨3, _⟩ => ⟨S4x1024, .f32⟩
  | .hbm, ⟨4, _⟩ => ⟨S4x256x1024, .f32⟩
  | .hbm, ⟨5, _⟩ => ⟨S4x256, .f32⟩
  | .hbm, ⟨6, _⟩ => ⟨S4x256, .f32⟩
  | .hbm, ⟨7, _⟩ => ⟨S4x256, .f32⟩
  | .hbm, ⟨8, _⟩ => ⟨S4x1024x32x2048, .f32⟩
  | .hbm, ⟨9, _⟩ => ⟨S4x32x2048x1024, .f32⟩
  | .hbm, ⟨10, _⟩ => ⟨S4x1x1x1024, .f32⟩
  | .hbm, ⟨11, _⟩ => ⟨S4x32x2048x1024, .f32⟩
  | .hbm, ⟨12, _⟩ => ⟨S4x32x2048x1024, .f32⟩
  | .hbm, ⟨13, _⟩ => ⟨S_, .f32⟩
  | .hbm, ⟨14, _⟩ => ⟨S4x32x2048x1024, .f32⟩
  | .hbm, ⟨15, _⟩ => ⟨S4x32x2048x1024, .i1⟩
  | .hbm, ⟨16, _⟩ => ⟨S_, .f32⟩
  | .hbm, ⟨17, _⟩ => ⟨S4x32x2048x1024, .f32⟩
  | .hbm, ⟨18, _⟩ => ⟨S4x32x2048x1024, .i1⟩
  | .hbm, ⟨19, _⟩ => ⟨S_, .f32⟩
  | .hbm, ⟨20, _⟩ => ⟨S_, .f32⟩
  | .hbm, ⟨21, _⟩ => ⟨S4x32x2048x1024, .f32⟩
  | .hbm, ⟨22, _⟩ => ⟨S4x32x2048x1024, .f32⟩
  | .hbm, ⟨23, _⟩ => ⟨S4x32x2048x1024, .f32⟩
  | .hbm, ⟨24, _⟩ => ⟨S_, .f32⟩
  | .hbm, ⟨25, _⟩ => ⟨S4x32x2048x1024, .f32⟩
  | .hbm, ⟨26, _⟩ => ⟨S4x32x2048x1024, .f32⟩
  | .hbm, ⟨27, _⟩ => ⟨S4x32x2048x1024, .f32⟩
  | .hbm, ⟨28, _⟩ => ⟨S4x32x2048x256, .f32⟩
  | .hbm, ⟨29, _⟩ => ⟨S4x1x1x256, .f32⟩
  | .hbm, ⟨30, _⟩ => ⟨S4x32x2048x256, .f32⟩
  | .hbm, ⟨31, _⟩ => ⟨S4x32x2048x256, .f32⟩
  | .hbm, ⟨32, _⟩ => ⟨S4x1x1x256, .f32⟩
  | .hbm, ⟨33, _⟩ => ⟨S4x1x1x256, .f32⟩
  | .hbm, ⟨34, _⟩ => ⟨S_, .f32⟩
  | .hbm, ⟨35, _⟩ => ⟨S4x32x2048, .f32⟩
  | .hbm, ⟨36, _⟩ => ⟨S4x32x2048x1, .f32⟩
  | .hbm, ⟨37, _⟩ => ⟨S_, .f32⟩
  | .hbm, ⟨38, _⟩ => ⟨S4x32x2048x1, .f32⟩
  | .hbm, ⟨39, _⟩ => ⟨S4x32x2048x1, .f32⟩
  | .hbm, ⟨40, _⟩ => ⟨S4x32x2048x256, .f32⟩
  | .hbm, ⟨41, _⟩ => ⟨S4x32x2048x256, .f32⟩
  | .hbm, ⟨42, _⟩ => ⟨S4x32x2048x256, .f32⟩
  | .hbm, ⟨43, _⟩ => ⟨S_, .f32⟩
  | .hbm, ⟨44, _⟩ => ⟨S4x32x2048, .f32⟩
  | .hbm, ⟨45, _⟩ => ⟨S4x32x2048x1, .f32⟩
  | .hbm, ⟨46, _⟩ => ⟨S_, .f32⟩
  | .hbm, ⟨47, _⟩ => ⟨S4x32x2048x1, .f32⟩
  | .hbm, ⟨48, _⟩ => ⟨S4x32x2048x1, .f32⟩
  | .hbm, ⟨49, _⟩ => ⟨S4x32x2048x256, .f32⟩
  | .hbm, ⟨50, _⟩ => ⟨S4x32x2048x256, .f32⟩
  | .hbm, ⟨51, _⟩ => ⟨S_, .f32⟩
  | .hbm, ⟨52, _⟩ => ⟨S4x32x2048x1, .f32⟩
  | .hbm, ⟨53, _⟩ => ⟨S4x32x2048x1, .f32⟩
  | .hbm, ⟨54, _⟩ => ⟨S4x32x2048x1, .f32⟩
  | .hbm, ⟨55, _⟩ => ⟨S4x32x2048x256, .f32⟩
  | .hbm, ⟨56, _⟩ => ⟨S4x32x2048x256, .f32⟩
  | .hbm, ⟨57, _⟩ => ⟨S4x32x2048x256, .f32⟩
  | .hbm, ⟨58, _⟩ => ⟨S4x32x2048x256, .f32⟩
  | .hbm, ⟨59, _⟩ => ⟨S4x32x2048x256, .f32⟩
  | .hbm, ⟨60, _⟩ => ⟨S4x32x2048x256, .f32⟩
  | .hbm, ⟨61, _⟩ => ⟨S1x32x2048x256, .f32⟩
  | .hbm, ⟨62, _⟩ => ⟨S_, .f32⟩
  | .hbm, ⟨63, _⟩ => ⟨S1x32x2048x256, .f32⟩
  | .hbm, ⟨64, _⟩ => ⟨S5x32x2048x256, .f32⟩
  | .hbm, ⟨65, _⟩ => ⟨S32x2048x1, .i32⟩
  | .hbm, ⟨66, _⟩ => ⟨S1x1x5, .i32⟩
  | .hbm, ⟨67, _⟩ => ⟨S32x2048x5, .i32⟩
  | .hbm, ⟨68, _⟩ => ⟨S32x2048x5, .i32⟩
  | .hbm, ⟨69, _⟩ => ⟨S32x2048x5, .i1⟩
  | .hbm, ⟨70, _⟩ => ⟨S32x2048x5, .f32⟩
  | .hbm, ⟨71, _⟩ => ⟨S32x2048x256, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_cst_1 : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_v4 : Ref sig .tc := ⟨.hbm, 22, rfl⟩
abbrev main_call0_v5 : Ref sig .tc := ⟨.hbm, 23, rfl⟩
abbrev main_call0_cst_2 : Ref sig .tc := ⟨.hbm, 24, rfl⟩
abbrev main_call0_v6 : Ref sig .tc := ⟨.hbm, 25, rfl⟩
abbrev main_call0_v7 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== Proof.Spec.lean ====
/-
  What the block computes for ONE token, over the extended reals: four feed-forward branches of the token's row, the
  branch the token's number picks, and the row's layer normalisation. Both programs are read down to these functions.
-/
module

public import Idealize.ShloMosaic.Lib.Pointwise

@[expose] public section

noncomputable section

namespace Cert.Spec

open Idealize.ShloMosaic

/-- The exponential linear unit: `h` where `h > 0`, `exp h - 1` elsewhere. -/
def elu (h : EReal) : EReal := if 0 < h then h else Ideal.exp h - 1

/-- A branch's hidden unit `f` for the token row `x`: the unit's weights against the row, then `elu`. -/
def hidden (x : Fin 256 → EReal) (w : Fin 1024 → Fin 256 → EReal) (f : Fin 1024) : EReal :=
  elu (∑ k, x k * w f k)

/-- A branch's output `d` for the token row `x`: the hidden units against the output's weights. -/
def branch (x : Fin 256 → EReal) (w : Fin 1024 → Fin 256 → EReal) (u : Fin 256 → Fin 1024 → EReal) (d : Fin 256) :
    EReal :=
  ∑ f, hidden x w f * u d f

/-- The branch that the token's number `b` picks: the number 1, 2, 3 or 4 picks a branch, any other number the zero
    row. -/
def pick (b : BitVec 32) (y : Fin 4 → Fin 256 → EReal) (d : Fin 256) : EReal :=
  if b = 4#32 then y 3 d else if b = 3#32 then y 2 d else if b = 2#32 then y 1 d else if b = 1#32 then y 0 d else 0

/-- The row's mean. -/
def mean (v : Fin 256 → EReal) : EReal := Ideal.div (∑ d, v d) (Ideal.ofBits .f32 0x43800000#32)

/-- The row with its mean taken off. -/
def centred (v : Fin 256 → EReal) (d : Fin 256) : EReal := v d - mean v

/-- The row's layer normalisation, scale one and shift zero: centred, times the reciprocal root of its variance plus
    the small constant. -/
def norm (v : Fin 256 → EReal) (d : Fin 256) : EReal :=
  centred v d * Ideal.rsqrt (mean (fun e => centred v e * centred v e) + Ideal.ofBits .f32 0x2B8CBCCC#32)

/-- The whole block for one token: the picked branch, normalised. -/
def token (x : Fin 256 → EReal) (b : BitVec 32) (w : Fin 4 → Fin 1024 → Fin 256 → EReal)
    (u : Fin 4 → Fin 256 → Fin 1024 → EReal) : Fin 256 → EReal :=
  norm (pick b fun n => branch x (w n) (u n))

/-- The row's length, the constant that the mean divides by, is not zero. -/
theorem length_ne_zero : Ideal.ofBits .f32 0x43800000#32 ≠ 0 := by
  have h : Ideal.ofBits .f32 0x43800000#32 = ((256 : ℝ) : EReal) := by
    simp [Ideal.ofBits, Ideal.ieee, -EReal.coe_mul]; norm_num
  rw [h]
  exact_mod_cast (by norm_num : (256 : ℝ) ≠ 0)

/-- The zero row's mean is zero, -/
theorem mean_zero : mean (fun _ => 0) = 0 := by
  rw [mean, Finset.sum_const_zero, Ideal.div, if_neg length_ne_zero, zero_mul]

/-- and the zero row normalised is the zero row. -/
theorem norm_zero (d : Fin 256) : norm (fun _ => 0) d = 0 := by
  rw [norm, centred, mean_zero, sub_zero, zero_mul]

/-- The branches normalised and summed against the token's one-hot row are the picked branch normalised: the number
    stands for at most one branch, and for none the zero row is left on both sides. -/
theorem sum_hot (b : BitVec 32) (y : Fin 4 → Fin 256 → EReal) (d : Fin 256) :
    ∑ n : Fin 4, norm (y n) d * (if b = BitVec.ofNat 32 n.succ.val then 1 else 0) = norm (pick b y) d := by
  have hp : norm (pick b y) d = if b = 4#32 then norm (y 3) d else if b = 3#32 then norm (y 2) d
      else if b = 2#32 then norm (y 1) d else if b = 1#32 then norm (y 0) d else 0 := by
    unfold pick
    split_ifs <;> first | rfl | exact norm_zero d
  rw [hp, Fin.sum_univ_four]
  show norm (y 0) d * (if b = 1#32 then 1 else 0) + norm (y 1) d * (if b = 2#32 then 1 else 0)
    + norm (y 2) d * (if b = 3#32 then 1 else 0) + norm (y 3) d * (if b = 4#32 then 1 else 0) = _
  by_cases h4 : b = 4#32
  · subst h4; simp
  by_cases h3 : b = 3#32
  · subst h3; simp
  by_cases h2 : b = 2#32
  · subst h2; simp
  by_cases h1 : b = 1#32
  · subst h1; simp
  simp [h1, h2, h3, h4]

end Cert.Spec

end
-- ==== Proof.KernelBlock.lean ====
/-
  One grid step of the kernel. The body treats the upper and the lower half of its 4096 token rows by the same
  operations, cut at other places into payloads; here the half is stated once over the blocks it loads, both payloads
  are shown to be it, and it is read at an index as `Spec.token` of the row.
-/
module

public import proofs.«01_k».proof.Proof.Spec
public import proofs.«01_k».proof.Proof.Gen.KernelIdeal.Frame

@[expose] public section

set_option maxRecDepth 16384

noncomputable section

namespace Cert.KernelIdeal.Block

open Idealize.ShloMosaic Idealize.ShloMosaic.Pointwise
open Cert.KernelIdeal Cert.KernelIdeal.Gen

/-- One branch taken where the token's number is `n`, the rows so far elsewhere. -/
def takeV (b : IVec S2048x1 32) (n : BitVec 32) (h : FVec Ideal S2048x1024 .bf16) (u : FVec Ideal S1024x256 .bf16)
    (acc : FVec Ideal S2048x256 .f32) : FVec Ideal S2048x256 .f32 :=
  select
    (broadcastTo S2048x256 (shapeCast S2048x1 (cmpi .eq b (broadcast S2048x1 n)) shapeCasts_S2048x1_S2048x1)
      broadcasts_S2048x1_S2048x256)
    (matmul dot_S2048x1024_S1024x256_S2048x256_1_0_0_1_n_n none h u (constant S2048x256 .f32 0x00000000#32)) acc

/-- The row means, a column. -/
def meanV (v : FVec Ideal S2048x256 .f32) : FVec Ideal S2048x1 .f32 :=
  divf (shapeCast S2048x1 (multiReduction .add [1] S2048 v 0x00000000#32 reduces_S2048x256_S2048 (.inl rfl) rfl)
    shapeCasts_S2048_S2048x1) (broadcast S2048x1 (Scalar.ofBits .f32 0x43800000#32))

/-- The rows with their means taken off. -/
def centredV (v : FVec Ideal S2048x256 .f32) : FVec Ideal S2048x256 .f32 :=
  subf v (broadcastTo S2048x256 (meanV v) broadcasts_S2048x1_S2048x256)

/-- The rows normalised. -/
def normV (v : FVec Ideal S2048x256 .f32) : FVec Ideal S2048x256 .f32 :=
  mulf (centredV v) (broadcastTo S2048x256
    (rsqrt (addf (meanV (mulf (centredV v) (centredV v))) (broadcast S2048x1 (Scalar.ofBits .f32 0x2B8CBCCC#32))))
    broadcasts_S2048x1_S2048x256)

/-- The half: the four branches of the loaded rows taken in turn, then the rows normalised. -/
def halfV (x : Vec Ideal S2048x256 .f32) (b : Vec Ideal S2048x1 .i32) (w : Fin 4 → Vec Ideal S1x256x1024 .bf16)
    (u : Fin 4 → Vec Ideal S1x1024x256 .bf16) : FVec Ideal S2048x256 .f32 :=
  normV (takeV (k0_pay3 b) 4#32 (k0_pay7 (k0_pay2 x) (w 3)) (k0_pay8 (u 3))
    (takeV (k0_pay3 b) 3#32 (k0_pay7 (k0_pay2 x) (w 2)) (k0_pay8 (u 2))
      (takeV (k0_pay3 b) 2#32 (k0_pay7 (k0_pay2 x) (w 1)) (k0_pay8 (u 1))
        (takeV (k0_pay3 b) 1#32 (k0_pay7 (k0_pay2 x) (w 0)) (k0_pay8 (u 0)) k0_pay12))))

/-- A branch taken, at an index. -/
theorem takeV_apply (b : IVec S2048x1 32) (n : BitVec 32) (h : FVec Ideal S2048x1024 .bf16)
    (u : FVec Ideal S1024x256 .bf16) (acc : FVec Ideal S2048x256 .f32) (r : Fin 2048) (d : Fin 256) :
    takeV b n h u acc (ix2 r d)
      = if b (ix2 r 0) = n then ∑ f : Fin 1024, h (ix2 r f) * u (ix2 f d) else acc (ix2 r d) := by
  pointwise [takeV]
  by_cases hb : b (ix2 r 0) = n <;> simp [hb, Scalar.select, IntOp.cmpi, BitVec.ofBool, beq_eq_false_iff_ne.mpr]

/-- A row's mean. -/
theorem meanV_apply (v : FVec Ideal S2048x256 .f32) (r : Fin 2048) :
    meanV v (ix2 r 0) = Spec.mean fun d => v (ix2 r d) := by
  pointwise [meanV, Spec.mean]

/-- A centred row. -/
theorem centredV_apply (v : FVec Ideal S2048x256 .f32) (r : Fin 2048) (d : Fin 256) :
    centredV v (ix2 r d) = Spec.centred (fun d => v (ix2 r d)) d := by
  pointwise [centredV, Spec.centred]
  rw [meanV_apply]

/-- A normalised row. -/
theorem normV_apply (v : FVec Ideal S2048x256 .f32) (r : Fin 2048) (d : Fin 256) :
    normV v (ix2 r d) = Spec.norm (fun d => v (ix2 r d)) d := by
  pointwise [normV, Spec.norm]
  rw [meanV_apply, centredV_apply]
  pointwise
  simp only [centredV_apply]

/-- A branch's hidden units. -/
theorem elu_apply (x : FVec Ideal S2048x256 .bf16) (w : Vec Ideal S1x256x1024 .bf16) (r : Fin 2048) (f : Fin 1024) :
    k0_pay7 x w (ix2 r f) = Spec.hidden (fun k => x (ix2 r k)) (fun f k => w (ix3 0 k f)) f := by
  pointwise [k0_pay7, Spec.hidden, Spec.elu]

/-- The half at an index: the token's row of the loaded rows, its number, and the loaded weights. -/
theorem halfV_apply (x : Vec Ideal S2048x256 .f32) (b : Vec Ideal S2048x1 .i32)
    (w : Fin 4 → Vec Ideal S1x256x1024 .bf16) (u : Fin 4 → Vec Ideal S1x1024x256 .bf16) (r : Fin 2048) (d : Fin 256) :
    halfV x b w u (ix2 r d)
      = Spec.token (fun k => x (ix2 r k)) (b (ix2 r 0)) (fun n f k => w n (ix3 0 k f)) (fun n d f => u n (ix3 0 f d))
          d := by
  have hx : ∀ k, k0_pay2 x (ix2 r k) = x (ix2 r k) := fun k => by pointwise [k0_pay2]
  have hb : k0_pay3 (F := Ideal) b (ix2 r 0) = b (ix2 r 0) := by pointwise [k0_pay3]
  have hu : ∀ n f d, k0_pay8 (u n) (ix2 f d) = u n (ix3 0 f d) := fun n f d => by pointwise [k0_pay8]
  have hz : ∀ d, k0_pay12 (F := Ideal) (ix2 r d) = 0 := fun d => by pointwise [k0_pay12]
  unfold halfV Spec.token
  rw [normV_apply]
  congr 1
  funext e
  simp only [takeV_apply, elu_apply, hx, hb, hu, hz]
  rfl

/-- The lower half's payload is the half of its loads. -/
theorem lower_eq (x : Vec Ideal S2048x256 .f32) (b : Vec Ideal S2048x1 .i32) (w0 w1 w2 w3 : Vec Ideal S1x256x1024 .bf16)
    (u0 u1 u2 u3 : Vec Ideal S1x1024x256 .bf16) :
    k0_pay9 (k0_pay3 b) (k0_pay6 (k0_pay2 x) (k0_pay3 b) (k0_pay4 x b w0 u0) (k0_pay5 x w1) u1 w2 u2)
      (k0_pay7 (k0_pay2 x) w3) (k0_pay8 u3) = halfV x b ![w0, w1, w2, w3] ![u0, u1, u2, u3] := rfl

/-- The upper half's payload, printed in other parts, is the half of its loads too. -/
theorem upper_eq (x : Vec Ideal S2048x256 .f32) (b : Vec Ideal S2048x1 .i32) (w0 w1 w2 w3 : Vec Ideal S1x256x1024 .bf16)
    (u0 u1 u2 u3 : Vec Ideal S1x1024x256 .bf16) :
    k0_pay1
      (k0_pay16 (k0_pay10 x) (k0_pay11 b)
        (k0_pay14 (k0_pay10 x) (k0_pay11 b) (k0_pay12 (F := Ideal)) (k0_pay13 x w0) u0 w1 u1) (k0_pay15 (k0_pay10 x) w2)
        u2 w3 u3)
      (k0_pay17 (k0_pay10 x) (k0_pay11 b)
        (k0_pay14 (k0_pay10 x) (k0_pay11 b) (k0_pay12 (F := Ideal)) (k0_pay13 x w0) u0 w1 u1) (k0_pay15 (k0_pay10 x) w2)
        u2 w3 u3) = halfV x b ![w0, w1, w2, w3] ![u0, u1, u2, u3] := rfl

/-- The row `q` of the loaded blocks' token, output `d`. -/
def rowOut (x : Vec Ideal S4096x256 .f32) (b : Vec Ideal S4096x8 .i32) (w : Vec Ideal S4x256x1024 .bf16)
    (u : Vec Ideal S4x1024x256 .bf16) (q : Fin 4096) (d : Fin 256) : EReal :=
  Spec.token (fun k => x (ix2 q k)) (b (ix2 q 0)) (fun n f k => w (ix3 n k f)) (fun n d f => u (ix3 n f d)) d

/-- The four first-layer weight blocks that either half loads. -/
abbrev ldW (w : Vec Ideal S4x256x1024 .bf16) : Fin 4 → Vec Ideal S1x256x1024 .bf16 :=
  ![View.ld w r0_2, View.ld w r0_4, View.ld w r0_6, View.ld w r0_8]

/-- The four second-layer weight blocks that either half loads. -/
abbrev ldU (u : Vec Ideal S4x1024x256 .bf16) : Fin 4 → Vec Ideal S1x1024x256 .bf16 :=
  ![View.ld u r0_3, View.ld u r0_5, View.ld u r0_7, View.ld u r0_9]

/-- A half whose row `r` is the block's row `q` leaves the row `q`'s token there. -/
theorem half_row (x : Vec Ideal S4096x256 .f32) (b : Vec Ideal S4096x8 .i32) (w : Vec Ideal S4x256x1024 .bf16)
    (u : Vec Ideal S4x1024x256 .bf16) (xs : Vec Ideal S2048x256 .f32) (bs : Vec Ideal S2048x1 .i32) (r : Fin 2048)
    (q : Fin 4096) (d : Fin 256) (hx : ∀ k, xs (ix2 r k) = x (ix2 q k)) (hb : bs (ix2 r 0) = b (ix2 q 0)) :
    halfV xs bs (ldW w) (ldU u) (ix2 r d) = rowOut x b w u q d := by
  have hw : ∀ n f k, ldW w n (ix3 0 k f) = w (ix3 n k f) := by
    intro n f k
    fin_cases n <;> (show View.ld w _ _ = _; pointwise)
  have hu : ∀ n f d, ldU u n (ix3 0 f d) = u (ix3 n f d) := by
    intro n f d
    fin_cases n <;> (show View.ld u _ _ = _; pointwise)
  rw [halfV_apply, rowOut, hb]
  simp only [hx, hw, hu]

/-- What the body leaves in the output's staging buffer: the half of the upper loads over the half of the lower. -/
theorem out_eq (x : Vec Ideal S4096x256 .f32) (b : Vec Ideal S4096x8 .i32) (w : Vec Ideal S4x256x1024 .bf16)
    (u : Vec Ideal S4x1024x256 .bf16) :
    out0_4 x b w u = View.canon (Val := Elt Ideal) (s := S4096x256) (e := .f32)
      [⟨r0_10, halfV (View.ld x r0_10) (View.ld b r0_11) (ldW w) (ldU u)⟩,
        ⟨r0_0, halfV (View.ld x r0_0) (View.ld b r0_1) (ldW w) (ldU u)⟩] := by
  unfold_out out0_4
  rw [lower_eq, upper_eq]

/-- What the body leaves in the output's staging buffer, at an index: the token of that row of the loaded blocks. -/
theorem out_apply (x : Vec Ideal S4096x256 .f32) (b : Vec Ideal S4096x8 .i32) (w : Vec Ideal S4x256x1024 .bf16)
    (u : Vec Ideal S4x1024x256 .bf16) (q : Fin 4096) (d : Fin 256) :
    out0_4 x b w u (ix2 q d) = rowOut x b w u q d := by
  rw [out_eq]
  by_cases hq : q.val < 2048
  · have e : (ix2 q d : S4096x256.Idx) = r0_0.emb (ix2 ⟨q, hq⟩ d) := by
      funext a; apply Fin.ext
      match a with
      | ⟨0, _⟩ => show q.val = 0 + 1 * q.val; omega
      | ⟨1, _⟩ => show d.val = 0 + 1 * d.val; omega
    have hn : (ix2 q d : S4096x256.Idx) ∉ r0_10.set := by
      rw [Rect.mem_set_unit]
      intro h
      have := (h 0).1
      simp at this
      omega
    refine (View.canon_cons_of_not_mem (Val := Elt Ideal) (e := .f32) ⟨r0_10, _⟩ _ hn).trans ?_
    rw [e, View.canon_cons_emb]
    refine half_row x b w u _ _ _ q d (fun k => ?_) ?_
    · pointwise
    · pointwise
  · have hr : q.val - 2048 < 2048 := by omega
    have e : (ix2 q d : S4096x256.Idx) = r0_10.emb (ix2 ⟨q - 2048, hr⟩ d) := by
      funext a; apply Fin.ext
      match a with
      | ⟨0, _⟩ => show q.val = 2048 + 1 * (q.val - 2048); omega
      | ⟨1, _⟩ => show d.val = 0 + 1 * d.val; omega
    rw [e, View.canon_cons_emb]
    have hq' : (⟨2048 + (q.val - 2048), by omega⟩ : Fin 4096) = q := Fin.ext (by show 2048 + (q.val - 2048) = q.val; omega)
    refine half_row x b w u _ _ _ q d (fun k => ?_) ?_
    · pointwise
      rw [hq']
    · pointwise
      rw [hq']

end Cert.KernelIdeal.Block

end
-- ==== Proof.KernelArray.lean ====
/-
  The kernel's run. Every grid step writes its block of one whole-array function of the arrays the kernel is entered
  with; those arrays are the arguments reshaped and transposed by the host; and the host reshapes the result.
-/
module

public import proofs.«01_k».proof.Proof.KernelBlock
public import Idealize.ShloMosaic.Lib.Pipeline.Value
public import Idealize.ShloMosaic.Lib.Claim

@[expose] public section

set_option maxRecDepth 16384

noncomputable section

namespace Cert.KernelIdeal.Block

open Idealize.ShloMosaic Idealize.ShloMosaic.TcCoe Idealize.ShloMosaic.Pointwise
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The token at row `i 0` of the four arrays, output `i 1`: what the kernel's result array is shown to hold. -/
def rows (x : Vec Ideal S65536x256 .f32) (b : Vec Ideal S65536x8 .i32) (w : Vec Ideal S4x256x1024 .bf16)
    (u : Vec Ideal S4x1024x256 .bf16) : Vec Ideal S65536x256 .f32 := fun i =>
  Spec.token (fun k => x (ix2 (i 0) k)) (b (ix2 (i 0) 0)) (fun n f k => w (ix3 n k f)) (fun n d f => u (ix3 n f d)) (i 1)

/-- Where each window's block lies at a grid step: the two token windows and the result move a block a step along the
    rows, the two weight windows stay. -/
theorem index_eq : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = t.val ∧ win0_4.index t 1 = 0) := by decide +kernel

/-- Row `q` of step `t`'s block is a row of the array. -/
theorem row_lt (t : Fin grid0.N) (q : Fin 4096) : 4096 * t.val + q.val < 65536 := by
  have h : grid0.N = 16 := N_0
  have := t.isLt
  have := q.isLt
  omega

/-- Row `q` of step `t`'s block, in the array. -/
abbrev row (t : Fin grid0.N) (q : Fin 4096) : Fin 65536 := ⟨4096 * t.val + q.val, row_lt t q⟩

theorem emb0 (t : Fin grid0.N) (q : Fin 4096) (k : Fin 256) :
    ((cfg0.win 0).blk t).view.emb (ix2 q k : S4096x256.Idx) = (ix2 (row t q) k : S65536x256.Idx) := by
  obtain ⟨⟨e0, e1⟩, -⟩ := index_eq t
  funext a; apply Fin.ext
  match a with
  | ⟨0, _⟩ => show win0_0.index t (0 : Fin 2) * 4096 + 1 * q.val = 4096 * t.val + q.val; omega
  | ⟨1, _⟩ => show win0_0.index t (1 : Fin 2) * 256 + 1 * k.val = k.val; omega

theorem emb1 (t : Fin grid0.N) (q : Fin 4096) (k : Fin 8) :
    ((cfg0.win 1).blk t).view.emb (ix2 q k : S4096x8.Idx) = (ix2 (row t q) k : S65536x8.Idx) := by
  obtain ⟨-, ⟨e0, e1⟩, -⟩ := index_eq t
  funext a; apply Fin.ext
  match a with
  | ⟨0, _⟩ => show win0_1.index t (0 : Fin 2) * 4096 + 1 * q.val = 4096 * t.val + q.val; omega
  | ⟨1, _⟩ => show win0_1.index t (1 : Fin 2) * 8 + 1 * k.val = k.val; omega

theorem emb2 (t : Fin grid0.N) (j : S4x256x1024.Idx) : ((cfg0.win 2).blk t).view.emb j = j := by
  obtain ⟨-, -, ⟨e0, e1, e2⟩, -⟩ := index_eq t
  funext a; apply Fin.ext
  match a with
  | ⟨0, _⟩ => show win0_2.index t (0 : Fin 3) * 4 + 1 * (j 0).val = (j 0).val; omega
  | ⟨1, _⟩ => show win0_2.index t (1 : Fin 3) * 256 + 1 * (j 1).val = (j 1).val; omega
  | ⟨2, _⟩ => show win0_2.index t (2 : Fin 3) * 1024 + 1 * (j 2).val = (j 2).val; omega

theorem emb3 (t : Fin grid0.N) (j : S4x1024x256.Idx) : ((cfg0.win 3).blk t).view.emb j = j := by
  obtain ⟨-, -, -, ⟨e0, e1, e2⟩, -⟩ := index_eq t
  funext a; apply Fin.ext
  match a with
  | ⟨0, _⟩ => show win0_3.index t (0 : Fin 3) * 4 + 1 * (j 0).val = (j 0).val; omega
  | ⟨1, _⟩ => show win0_3.index t (1 : Fin 3) * 1024 + 1 * (j 1).val = (j 1).val; omega
  | ⟨2, _⟩ => show win0_3.index t (2 : Fin 3) * 256 + 1 * (j 2).val = (j 2).val; omega

theorem emb4 (t : Fin grid0.N) (q : Fin 4096) (k : Fin 256) :
    ((cfg0.win 4).blk t).view.emb (ix2 q k : S4096x256.Idx) = (ix2 (row t q) k : S65536x256.Idx) := by
  obtain ⟨-, -, -, -, ⟨e0, e1⟩⟩ := index_eq t
  funext a; apply Fin.ext
  match a with
  | ⟨0, _⟩ => show win0_4.index t (0 : Fin 2) * 4096 + 1 * q.val = 4096 * t.val + q.val; omega
  | ⟨1, _⟩ => show win0_4.index t (1 : Fin 2) * 256 + 1 * k.val = k.val; omega

/-- What step `t` writes back is its block of `rows` of the four arrays as the kernel is entered. -/
theorem flushed_eq (c : Dev nD) (t : Fin cfg0.N) :
    (dats m 0 c).flushed 4 t = ((cfg0.win 4).blk t).view.read (Elt Ideal)
      (rows (V m c main_v0) (V m c main_v2) (V m c main_v4) (V m c main_v6)) := by
  show (cfg0.win 4).cut (grid0.coords t) ((dats m 0 c).after 4 t) = _
  rw [after0_4]
  funext j
  show out0_4 (iblk m c 0 t) (iblk m c 1 t) (iblk m c 2 t) (iblk m c 3 t) j = rows _ _ _ _ (((cfg0.win 4).blk t).view.emb j)
  obtain ⟨q, d, rfl⟩ : ∃ (q : Fin 4096) (d : Fin 256), j = (ix2 q d : S4096x256.Idx) := ⟨j 0, j 1, (ix2_eta j).symm⟩
  rw [emb4, out_apply]
  have h0 : ∀ k : Fin 256, iblk m c 0 t (ix2 q k : S4096x256.Idx) = V m c main_v0 (ix2 (row t q) k : S65536x256.Idx) :=
    fun k => (show _ = V m c main_v0 (((cfg0.win 0).blk t).view.emb (ix2 q k : S4096x256.Idx)) from rfl).trans (by rw [emb0])
  have h1 : iblk m c 1 t (ix2 q 0 : S4096x8.Idx) = V m c main_v2 (ix2 (row t q) 0 : S65536x8.Idx) :=
    (show _ = V m c main_v2 (((cfg0.win 1).blk t).view.emb (ix2 q 0 : S4096x8.Idx)) from rfl).trans (by rw [emb1])
  have h2 : iblk m c 2 t = V m c main_v4 := by
    funext j; show V m c main_v4 (((cfg0.win 2).blk t).view.emb j) = _; rw [emb2]
  have h3 : iblk m c 3 t = V m c main_v6 := by
    funext j; show V m c main_v6 (((cfg0.win 3).blk t).view.emb j) = _; rw [emb3]
  unfold rowOut rows
  rw [h1, h2, h3]
  simp only [h0]
  rfl

/-- Every row of the result array is in the block of some step, and every step writes its block back. -/
theorem cover (i : S65536x256.Idx) : ∃ t : Fin cfg0.N, (cfg0.win 4).flush t = true ∧ i ∈ ((cfg0.win 4).blk t).view.set := by
  have hN : grid0.N = 16 := N_0
  have hi : (i 0 : Nat) < 65536 := (i 0).isLt
  let t : Fin grid0.N := ⟨(i 0 : Nat) / 4096, by omega⟩
  let q : Fin 4096 := ⟨(i 0 : Nat) % 4096, by omega⟩
  refine ⟨t, flush0_4 t, ?_⟩
  have h := ((cfg0.win 4).blk t).view.emb_mem_set (ix2 q (i 1) : S4096x256.Idx)
  have e : (ix2 (row t q) (i 1) : S65536x256.Idx) = i := by
    funext a; apply Fin.ext
    match a with
    | ⟨0, _⟩ => show 4096 * ((i 0 : Nat) / 4096) + (i 0 : Nat) % 4096 = (i 0 : Nat); omega
    | ⟨1, _⟩ => rfl
  have key : ∀ y, y = i → y ∈ ((cfg0.win 4).blk t).view.set → i ∈ ((cfg0.win 4).blk t).view.set := fun _ e h => e ▸ h
  exact key _ ((emb4 t q (i 1)).trans e) h

/-- So the result array ends at `rows` of the four arrays as the kernel is entered. -/
theorem final4 (c : Dev nD) : (dats m 0 c).arrAt 4 cfg0.N
    = rows (V m c main_v0) (V m c main_v2) (V m c main_v4) (V m c main_v6) :=
  (dats m 0 c).arrAt_eq_of_cover 4 _ (fun t _ => flushed_eq m c t) cover

/-- The kernel's result as a function of the arguments: every token of `x` with its number and the two weights. -/
def result (x : Vec Ideal S32x2048x256 .f32) (b : Vec Ideal S32x2048 .i32) (w : Vec Ideal S4x1024x256 .f32)
    (u : Vec Ideal S4x256x1024 .f32) : Vec Ideal S32x2048x256 .f32 := fun i =>
  Spec.token (fun k => x (ix3 (i 0) (i 1) k)) (b (ix2 (i 0) (i 1))) (fun n f k => w (ix3 n f k))
    (fun n d f => u (ix3 n d f)) (i 2)

/-- The token rows as the host hands them to the kernel, -/
def entX (x : FVec Ideal S32x2048x256 .f32) : FVec Ideal S65536x256 .f32 :=
  shapeCast S65536x256 x shapeCasts_S32x2048x256_S65536x256

/-- the token numbers, eight times over, -/
def entB (b : IVec S32x2048 32) : IVec S65536x8 32 :=
  broadcastInDim S65536x8 ![0, 1] bcast_S65536x1_S65536x8_0_1 (shapeCast S65536x1 b shapeCasts_S32x2048_S65536x1)

/-- the first layer's weights, -/
def entW (w : FVec Ideal S4x1024x256 .f32) : FVec Ideal S4x256x1024 .bf16 :=
  truncf .bf16 (transpose S4x256x1024 [0, 2, 1] w transposes_S4x1024x256_S4x256x1024_0_2_1) bitsLt_bf16_f32

/-- and the second layer's. -/
def entU (u : FVec Ideal S4x256x1024 .f32) : FVec Ideal S4x1024x256 .bf16 :=
  truncf .bf16 (transpose S4x1024x256 [0, 2, 1] u transposes_S4x256x1024_S4x1024x256_0_2_1) bitsLt_bf16_f32

theorem entry_x (c : Dev nD) : V m c main_v0 = entX (m ((c.tc : Thread nD τ).loc main_arg0)) := by
  entry_read
  rfl

theorem entry_b (c : Dev nD) : V m c main_v2 = entB (m ((c.tc : Thread nD τ).loc main_arg1)) := by
  entry_read
  rfl

theorem entry_w (c : Dev nD) : V m c main_v4 = entW (m ((c.tc : Thread nD τ).loc main_arg2)) := by
  entry_read
  rfl

theorem entry_u (c : Dev nD) : V m c main_v6 = entU (m ((c.tc : Thread nD τ).loc main_arg4)) := by
  entry_read
  rfl

/-- The kernel's result array, reshaped by the host. -/
theorem after_out (c : Dev nD) : Pipeline.afterTail₀ cfgs (dats m) 0 (V0 m) [hostOps1] c main_v8
    = shapeCast S32x2048x256 ((dats m 0 c).arrAt 4 cfg0.N) shapeCasts_S65536x256_S32x2048x256 := by
  unfold Pipeline.afterTail₀
  have h := Pipeline.withArrays_arr spec0 (by decide) c (V0 m c) (fun w => (dats m 0 c).arrAt w cfg0.N) 4
  exact congrArg (fun v => shapeCast S32x2048x256 v shapeCasts_S65536x256_S32x2048x256) h

/-- `rows` of what the kernel is entered with, reshaped: `result` of the arguments. -/
theorem rows_result (x : FVec Ideal S32x2048x256 .f32) (b : IVec S32x2048 32) (w : FVec Ideal S4x1024x256 .f32)
    (u : FVec Ideal S4x256x1024 .f32) :
    shapeCast S32x2048x256 (rows (entX x) (entB b) (entW w) (entU u)) shapeCasts_S65536x256_S32x2048x256
      = result x b w u := by
  funext j
  idx_vars j
  pointwise [rows, result, entX, entB, entW, entU]

/-- What the host's reshape leaves: `result` of the arguments. -/
theorem final_out (c : Dev nD) : Pipeline.afterTail₀ cfgs (dats m) 0 (V0 m) [hostOps1] c main_v8
    = result (m ((c.tc : Thread nD τ).loc main_arg0)) (m ((c.tc : Thread nD τ).loc main_arg1))
        (m ((c.tc : Thread nD τ).loc main_arg2)) (m ((c.tc : Thread nD τ).loc main_arg4)) := by
  rw [after_out, final4, entry_x, entry_b, entry_w, entry_u]
  exact rows_result _ _ _ _

/-- The kernel's run: the result at `result` of the arguments, the arguments unchanged. -/
theorem run : θ_run defs (onTc (τ := τ) (main (F := Ideal))) ⟨m, fun _ => 0, ρ⟩ fun r => ∀ c : Dev nD,
      r.2.mem ((c.tc : Thread nD τ).loc main_v8)
        = result (m ((c.tc : Thread nD τ).loc main_arg0)) (m ((c.tc : Thread nD τ).loc main_arg1))
            (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v8 (Pipeline.mem_restRefs_of main_v8 (by decide) (by decide))).trans (final_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.Block

end
-- ==== Proof.Reference.lean ====
/-
  The reference's result, stage by stage, read at an index: with zero biases and shift and unit scale it is `Spec.token`
  of the token's row — a branch per number, each normalised, and the sum over the numbers against the token's one-hot row.
-/
module

public import proofs.«01_k».proof.Proof.Spec
public import proofs.«01_k».proof.Proof.Gen.ReferenceIdeal.Run

@[expose] public section

set_option maxRecDepth 16384

noncomputable section

namespace Cert.ReferenceIdeal.Stages

open Idealize.ShloMosaic Idealize.ShloMosaic.Pointwise
open Cert.ReferenceIdeal Cert.ReferenceIdeal.Gen

/-- The hidden layer before the unit. -/
def preV (x : FVec Ideal S32x2048x256 .f32) (w : FVec Ideal S4x1024x256 .f32) (p : FVec Ideal S4x1024 .f32) :
    FVec Ideal S4x32x2048x1024 .f32 :=
  addf (transpose S4x32x2048x1024 [0, 2, 3, 1]
      (Host.dotGeneral dot_S4x1024x256_S32x2048x256_S4x1024x32x2048_2_2_01_01_n_n none w x)
      transposes_S4x1024x32x2048_S4x32x2048x1024_0_2_3_1)
    (broadcastInDim S4x32x2048x1024 ![0, 1, 2, 3] bcast_S4x1x1x1024_S4x32x2048x1024_0_1_2_3
      (broadcastInDim S4x1x1x1024 ![0, 3] bcast_S4x1024_S4x1x1x1024_0_3 p))

/-- A scalar constant everywhere. -/
def constV (b : BitVec 32) : FVec Ideal S4x32x2048x1024 .f32 :=
  broadcastInDim S4x32x2048x1024 ![] bcast_S_S4x32x2048x1024 (constant S_ .f32 b)

/-- The unit. -/
def eluV (h : FVec Ideal S4x32x2048x1024 .f32) : FVec Ideal S4x32x2048x1024 .f32 :=
  select (cmpf .ogt h (constV 0x00000000#32)) h
    (mulf (constV 0x3F800000#32) (Host.expm1 (select (cmpf .ogt h (constV 0x00000000#32)) (constV 0x00000000#32) h)))

/-- A per-branch row of 256 repeated for every token. -/
def rowV (p : FVec Ideal S4x256 .f32) : FVec Ideal S4x32x2048x256 .f32 :=
  broadcastInDim S4x32x2048x256 ![0, 1, 2, 3] bcast_S4x1x1x256_S4x32x2048x256_0_1_2_3
    (broadcastInDim S4x1x1x256 ![0, 3] bcast_S4x256_S4x1x1x256_0_3 p)

/-- The branches' outputs. -/
def branchV (h : FVec Ideal S4x32x2048x1024 .f32) (u : FVec Ideal S4x256x1024 .f32) (p : FVec Ideal S4x256 .f32) :
    FVec Ideal S4x32x2048x256 .f32 :=
  addf (Host.dotGeneral dot_S4x32x2048x1024_S4x256x1024_S4x32x2048x256_3_2_12_1_0_0 none h u) (rowV p)

/-- The row means. -/
def meanV (v : FVec Ideal S4x32x2048x256 .f32) : FVec Ideal S4x32x2048x1 .f32 :=
  Host.divf (broadcastInDim S4x32x2048x1 ![0, 1, 2] bcast_S4x32x2048_S4x32x2048x1_0_1_2
      (Host.reduceAdd v (constant S_ .f32 0x00000000#32) reducesTo_S4x32x2048x256_S4x32x2048_d3 h_S_))
    (broadcastInDim S4x32x2048x1 ![] bcast_S_S4x32x2048x1 (constant S_ .f32 0x43800000#32))

/-- The rows with their means taken off. -/
def centredV (v : FVec Ideal S4x32x2048x256 .f32) : FVec Ideal S4x32x2048x256 .f32 :=
  subf v (broadcastInDim S4x32x2048x256 ![0, 1, 2, 3] bcast_S4x32x2048x1_S4x32x2048x256_0_1_2_3 (meanV v))

/-- The rows normalised, scaled and shifted. -/
def normV (v : FVec Ideal S4x32x2048x256 .f32) (g s : FVec Ideal S4x256 .f32) : FVec Ideal S4x32x2048x256 .f32 :=
  addf (mulf (mulf (centredV v) (broadcastInDim S4x32x2048x256 ![0, 1, 2, 3] bcast_S4x32x2048x1_S4x32x2048x256_0_1_2_3
      (Host.rsqrt (addf (meanV (mulf (centredV v) (centredV v)))
        (broadcastInDim S4x32x2048x1 ![] bcast_S_S4x32x2048x1 (constant S_ .f32 0x2B8CBCCC#32))))))
      (rowV g)) (rowV s)

/-- The one-hot rows of the token numbers. -/
def hotV (b : IVec S32x2048 32) : FVec Ideal S32x2048x5 .f32 :=
  uitofp .f32 (cmpi .eq (broadcastInDim S32x2048x5 ![0, 1, 2] bcast_S32x2048x1_S32x2048x5_0_1_2
      (broadcastInDim S32x2048x1 ![0, 1] bcast_S32x2048_S32x2048x1_0_1 b))
    (broadcastInDim S32x2048x5 ![0, 1, 2] bcast_S1x1x5_S32x2048x5_0_1_2 (iotaInDim S1x1x5 32 2)))

/-- A zero branch before the four, each token's five rows against its one-hot row. -/
def chooseV (v : FVec Ideal S4x32x2048x256 .f32) (h : FVec Ideal S32x2048x5 .f32) : FVec Ideal S32x2048x256 .f32 :=
  Host.dotGeneral dot_S5x32x2048x256_S32x2048x5_S32x2048x256_0_2_3_n_12_01 none
    (concatenate S5x32x2048x256 0
      [⟨S1x32x2048x256, broadcastInDim S1x32x2048x256 ![] bcast_S_S1x32x2048x256 (constant S_ .f32 0x00000000#32)⟩,
        ⟨S4x32x2048x256, v⟩] concatenates_S1x32x2048x256_S4x32x2048x256_S5x32x2048x256_d0) h

/-- The whole reference, of its arguments. -/
def refOut (x : FVec Ideal S32x2048x256 .f32) (b : IVec S32x2048 32) (w : FVec Ideal S4x1024x256 .f32)
    (p : FVec Ideal S4x1024 .f32) (u : FVec Ideal S4x256x1024 .f32) (q g sh : FVec Ideal S4x256 .f32) :
    FVec Ideal S32x2048x256 .f32 :=
  chooseV (normV (branchV (eluV (preV x w p)) u q) g sh) (hotV b)

variable (m : (ℓ : Loc nD τ sig) → Buf (Elt Ideal) ℓ)

/-- The reference's result is the composition of the stages. -/
theorem res_eq (c : Dev nD) : Value.res_main_v38 m c
    = refOut (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  unfold Value.res_main_v38
  rfl

/-- A row stage, at an index. -/
theorem rowV_apply (p : FVec Ideal S4x256 .f32) (n : Fin 4) (s : Fin 32) (t : Fin 2048) (d : Fin 256) :
    rowV p (ix4 n s t d) = p (ix2 n d) := by
  pointwise [rowV]

/-- The hidden layer before the unit, at an index, the biases zero. -/
theorem preV_apply (x : FVec Ideal S32x2048x256 .f32) (w : FVec Ideal S4x1024x256 .f32) (p : FVec Ideal S4x1024 .f32)
    (hp : ∀ i, p i = 0) (n : Fin 4) (s : Fin 32) (t : Fin 2048) (f : Fin 1024) :
    preV x w p (ix4 n s t f) = ∑ k : Fin 256, x (ix3 s t k) * w (ix3 n f k) := by
  pointwise [preV]
  rw [hp, add_zero]
  exact Finset.sum_congr rfl fun k _ => mul_comm _ _

/-- The unit, at an index. -/
theorem eluV_apply (h : FVec Ideal S4x32x2048x1024 .f32) (n : Fin 4) (s : Fin 32) (t : Fin 2048) (f : Fin 1024) :
    eluV h (ix4 n s t f) = Spec.elu (h (ix4 n s t f)) := by
  pointwise [eluV, constV, Spec.elu]
  split_ifs <;> rfl

/-- A branch's output, at an index, the biases zero. -/
theorem branchV_apply (h : FVec Ideal S4x32x2048x1024 .f32) (u : FVec Ideal S4x256x1024 .f32) (p : FVec Ideal S4x256 .f32)
    (hp : ∀ i, p i = 0) (n : Fin 4) (s : Fin 32) (t : Fin 2048) (d : Fin 256) :
    branchV h u p (ix4 n s t d) = ∑ f : Fin 1024, h (ix4 n s t f) * u (ix3 n d f) := by
  pointwise [branchV]
  rw [rowV_apply, hp, add_zero]

/-- A row's mean. -/
theorem meanV_apply (v : FVec Ideal S4x32x2048x256 .f32) (n : Fin 4) (s : Fin 32) (t : Fin 2048) :
    meanV v (ix4 n s t 0) = Spec.mean fun d => v (ix4 n s t d) := by
  pointwise [meanV, Spec.mean]

/-- A centred row. -/
theorem centredV_apply (v : FVec Ideal S4x32x2048x256 .f32) (n : Fin 4) (s : Fin 32) (t : Fin 2048) (d : Fin 256) :
    centredV v (ix4 n s t d) = Spec.centred (fun d => v (ix4 n s t d)) d := by
  pointwise [centredV, Spec.centred]
  rw [meanV_apply]

/-- A normalised row, the scale one and the shift zero. -/
theorem normV_apply (v : FVec Ideal S4x32x2048x256 .f32) (g sh : FVec Ideal S4x256 .f32) (hg : ∀ i, g i = 1)
    (hs : ∀ i, sh i = 0) (n : Fin 4) (s : Fin 32) (t : Fin 2048) (d : Fin 256) :
    normV v g sh (ix4 n s t d) = Spec.norm (fun d => v (ix4 n s t d)) d := by
  pointwise [normV, Spec.norm]
  rw [rowV_apply, rowV_apply, hg, hs, mul_one, add_zero, meanV_apply, centredV_apply]
  pointwise
  simp only [centredV_apply]

/-- A one-hot row, at a number. -/
theorem hotV_apply (b : IVec S32x2048 32) (s : Fin 32) (t : Fin 2048) (k : Fin 5) :
    hotV b (ix3 s t k) = if b (ix2 s t) = BitVec.ofNat 32 k.val then 1 else 0 := by
  pointwise [hotV]
  show (((IntOp.cmpi .eq (b (ix2 s t)) (BitVec.ofNat 32 k)).toNat : ℝ) : EReal) = _
  by_cases h : b (ix2 s t) = BitVec.ofNat 32 k.val <;>
    simp [h, IntOp.cmpi, BitVec.ofBool, beq_eq_false_iff_ne.mpr]

/-- The sum against the one-hot rows; the zero branch adds nothing. -/
theorem chooseV_apply (v : FVec Ideal S4x32x2048x256 .f32) (h : FVec Ideal S32x2048x5 .f32) (s : Fin 32)
    (t : Fin 2048) (d : Fin 256) :
    chooseV v h (ix3 s t d) = ∑ n : Fin 4, v (ix4 n s t d) * h (ix3 s t n.succ) := by
  pointwise [chooseV]
  rw [Finset.sum_eq_zero fun _ _ => zero_mul _, zero_add]
  refine Finset.sum_congr rfl fun n _ => ?_
  have e : (⟨1 + n.val, by omega⟩ : Fin 5) = n.succ := Fin.ext (Nat.add_comm 1 n.val)
  rw [e]

/-- The reference at an index, with zero biases and shift and unit scale: the token of that row. -/
theorem refOut_apply (x : FVec Ideal S32x2048x256 .f32) (b : IVec S32x2048 32) (w : FVec Ideal S4x1024x256 .f32)
    (p : FVec Ideal S4x1024 .f32) (u : FVec Ideal S4x256x1024 .f32) (q g sh : FVec Ideal S4x256 .f32)
    (hp : ∀ i, p i = 0) (hq : ∀ i, q i = 0) (hg : ∀ i, g i = 1) (hs : ∀ i, sh i = 0)
    (s : Fin 32) (t : Fin 2048) (d : Fin 256) :
    refOut x b w p u q g sh (ix3 s t d)
      = Spec.token (fun k => x (ix3 s t k)) (b (ix2 s t)) (fun n f k => w (ix3 n f k)) (fun n d f => u (ix3 n d f)) d := by
  unfold refOut Spec.token
  rw [chooseV_apply, ← Spec.sum_hot]
  refine Finset.sum_congr rfl fun n _ => ?_
  rw [normV_apply _ _ _ hg hs, hotV_apply]
  congr 2
  funext e
  rw [branchV_apply _ _ _ hq]
  simp only [eluV_apply, preV_apply _ _ _ hp]
  rfl

end Cert.ReferenceIdeal.Stages

end
-- ==== Proof.Pre.lean ====
/-
  What the precondition says of the parameters at every index: the biases and the shift are zero, the scale is one.
-/
module

public import proofs.«01_k».proof.Pre_fresh_parameters
public import Idealize.ShloMosaic.Lib.Pointwise
public import Idealize.ShloMosaic.Lib.ReduceAll

@[expose] public section

noncomputable section

namespace Cert.Pre_fresh_parameters

open Idealize.ShloMosaic Idealize.ShloMosaic.Pointwise

variable [Facts]
open Facts

/-- Two values that compare equal are equal. -/
theorem eq_of_cmp {x y : EReal} (h : Ideal.cmp .oeq x y = 1#1) : x = y := by
  by_contra hne
  simp [Ideal.cmp, hne] at h

/-- A conjunction of two bits that is set has both set. -/
theorem both {x y : BitVec 1} (h : IntOp.andi x y = 1#1) : x = 1#1 ∧ y = 1#1 := by
  revert x y; decide

/-- A conjunction over an array, of equalities with a constant, that is set: the array is the constant. -/
theorem all_eq {s : Shape} {axes : List (Fin s.rank)} (x : FVec Ideal s .f32) (k : BitVec 32)
    (hb : S_.BroadcastsInDim s (![] : Fin 0 → Fin s.rank)) (h : s.ReducesTo axes S_) (hu : 0 < S_.numel) (j : S_.Idx)
    (e : Host.reduce IntOp.andi (cmpf .oeq x (broadcastInDim s ![] hb (constant S_ .f32 k))) (constantI S_ 1 1#1) h hu j
      = 1#1) (i : s.Idx) : x i = Ideal.ofBits .f32 k :=
  haveI : Subsingleton S_.Idx := ⟨fun a b => funext fun k => k.elim0⟩
  eq_of_cmp (Host.reduce_andi_all _ _ h hu j e i)

/-- The precondition, read: the biases and the shift are zero and the scale is one, at every index. -/
theorem fn_apply (a0 : FVec Ideal S32x2048x256 .f32) (a1 : IVec S32x2048 32) (a2 : FVec Ideal S4x1024x256 .f32)
    (a3 : FVec Ideal S4x1024 .f32) (a4 : FVec Ideal S4x256x1024 .f32) (a5 a6 a7 : FVec Ideal S4x256 .f32) (j : S_.Idx)
    (h : fn a0 a1 a2 a3 a4 a5 a6 a7 j = 1#1) :
    (∀ i, a3 i = (0 : EReal)) ∧ (∀ i, a5 i = (0 : EReal)) ∧ (∀ i, a6 i = (1 : EReal)) ∧ ∀ i, a7 i = (0 : EReal) := by
  have zero : Ideal.ofBits .f32 0x00000000#32 = (0 : EReal) := by simp [Ideal.ofBits, Ideal.ieee, -EReal.coe_mul]
  have one : Ideal.ofBits .f32 0x3F800000#32 = (1 : EReal) := by
    simp [Ideal.ofBits, Ideal.ieee, -EReal.coe_mul]; norm_num
  obtain ⟨h, e7⟩ := both h
  obtain ⟨h, e6⟩ := both h
  obtain ⟨e3, e5⟩ := both h
  exact ⟨fun i => (all_eq a3 _ _ _ _ j e3 i).trans zero, fun i => (all_eq a5 _ _ _ _ j e5 i).trans zero,
    fun i => (all_eq a6 _ _ _ _ j e6 i).trans one, fun i => (all_eq a7 _ _ _ _ j e7 i).trans zero⟩

end Cert.Pre_fresh_parameters

end
-- ==== Proof.lean ====
/-
  The proof of `Cert.Claim` (proofs.«01_k».proof.Defs): the frames, that the idealised kernel is the kernel, and that
  the idealised kernel and the reference leave equal results where the biases and the shift are zero and the scale one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fresh_parameters
public import proofs.«01_k».proof.Proof.KernelArray
public import proofs.«01_k».proof.Proof.Reference
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.Pointwise Idealize.SL.Sem

/-- The kernel as written runs to its end, its arguments unchanged and its counters at zero. -/
theorem frame_kernel : Cert.quiescent_Kernel := fun m ρ _ => Cert.Kernel.Gen.frame m ρ

/-- So does the idealised kernel, -/
theorem frame_ideal : Cert.quiescent_KernelIdeal := fun m ρ _ => Cert.KernelIdeal.Gen.frame m ρ

/-- on the precondition's memories too, -/
theorem frame_ideal_pre : Cert.quiescent_KernelIdeal_pre_fresh_parameters := fun m ρ _ => Cert.KernelIdeal.Gen.frame m ρ

/-- and the reference, from its run read at the arguments, it having no counters. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame on the precondition's memories. -/
theorem frame_ref_pre : Cert.quiescent_ReferenceIdeal_pre_fresh_parameters := fun m ρ _ => frame_ref m ρ trivial

/-- The idealised kernel's result and the reference's are equal where the precondition holds: both are, at every index,
    the token of that row. -/
theorem algebraic : Cert.algebraic_KernelIdeal_ReferenceIdeal_pre_fresh_parameters := by
  intro m ρ m' ρ' hpre hagree
  refine ⟨fun c => Cert.KernelIdeal.Block.result (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg4)), Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  obtain ⟨h3, h5, h6, h7⟩ := Cert.Pre_fresh_parameters.fn_apply _ _ _ _ _ _ _ _ (fun k => k.elim0) (congrFun (hpre c) _)
  rw [Cert.ReferenceIdeal.Stages.res_eq, e0, e1, e2, e3, e4, e5, e6, e7]
  funext j
  obtain ⟨s, t, d, rfl⟩ : ∃ (s : Fin 32) (t : Fin 2048) (d : Fin 256), j = (ix3 s t d : Cert.ReferenceIdeal.S32x2048x256.Idx) :=
    ⟨j 0, j 1, j 2, (ix3_eta j).symm⟩
  exact Cert.ReferenceIdeal.Stages.refOut_apply _ _ _ _ _ _ _ _ h3 h5 h6 h7 s t d

/-- All the claims together. -/
theorem claim : Cert.Claim :=
  ⟨Cert.Kernel.Gen.facts, Cert.KernelIdeal.Gen.facts, Cert.ReferenceIdeal.Gen.facts, Cert.Pre_fresh_parameters.Gen.facts,
    frame_kernel, frame_ideal, frame_ideal_pre, frame_ref, frame_ref_pre, trivial, algebraic⟩

end Cert.Proof

end
